-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S256x32 : Shape := ⟨2, ![256, 32]⟩
abbrev S256x1 : Shape := ⟨2, ![256, 1]⟩
abbrev S256x8192 : Shape := ⟨2, ![256, 8192]⟩
abbrev S256x4096 : Shape := ⟨2, ![256, 4096]⟩
abbrev S256 : Shape := ⟨1, ![256]⟩
abbrev S16x1024 : Shape := ⟨2, ![16, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x1, .i32⟩
  | .hbm, ⟨12, _⟩ => ⟨S16x1024, .i32⟩
  | .local _ .vmem, ⟨0, _⟩ => ⟨S256x32, .f32⟩
  | .local _ .vmem, ⟨1, _⟩ => ⟨S256x32, .f32⟩
  | .local _ .vmem, ⟨2, _⟩ => ⟨S256x1, .f32⟩
  | .local _ .vmem, ⟨3, _⟩ => ⟨S256x1, .f32⟩
  | .local _ .vmem, ⟨4, _⟩ => ⟨S8192x32, .f32⟩
  | .local _ .vmem, ⟨5, _⟩ => ⟨S1x8192, .f32⟩
  | .local _ .vmem, ⟨6, _⟩ => ⟨S256x1, .i32⟩
  | .local _ .vmem, ⟨7, _⟩ => ⟨S256x1, .i32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩
abbrev S16x1024 : Shape := ⟨2, ![16, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S32x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S16384x8192, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16x1024, .i32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Vq.FirstMin.lean ====
/-
  The first place where a row of 8192 extended reals is least, and the two ways of finding it:
  keeping the better of two (value, position) pairs along a list, and scanning two blocks of 4096.
-/
module

public import Idealize.ShloMosaic.PureOps.Reduce
public import Idealize.ShloMosaic.PureOps.Ideal.Laws

@[expose] public section

noncomputable section

open Idealize.ShloMosaic
open scoped BigOperators

namespace Cert.Vq

/-- The distance of a vector from a codebook entry, from their squared norms and their coordinates:
    the sum of the norms, less twice the product. -/
def entry (a b : EReal) (x y : Fin 32 → EReal) : EReal :=
  (a + b) - Ideal.ofBits .f32 0x40000000#32 * ∑ l, x l * y l

/-- The word of positive infinity means the top of the extended reals. -/
theorem ofBits_posInf : Ideal.ofBits .f32 0x7F800000#32 = ⊤ := by simp [Ideal.ofBits, Ideal.ieee]

/-- `r` is the first position at which the row `d` takes its least value. -/
def IsFirstMin (d : Fin 8192 → EReal) (r : BitVec 32) : Prop :=
  ∃ k : Fin 8192, r = BitVec.ofNat 32 k.val ∧ (∀ n, d k ≤ d n) ∧ ∀ n, d n = d k → k.val ≤ n.val

/-- A row has only one first least position. -/
theorem IsFirstMin.unique {d : Fin 8192 → EReal} {r r' : BitVec 32} (h : IsFirstMin d r)
    (h' : IsFirstMin d r') : r = r' := by
  obtain ⟨k, rfl, hk, hk'⟩ := h
  obtain ⟨l, rfl, hl, hl'⟩ := h'
  have e : d k = d l := le_antisymm (hk l) (hl k)
  rw [Nat.le_antisymm (hk' l e.symm) (hl' k e)]

/-! ## Pairs kept along a list -/

/-- The pair `a` is no worse than `b`: a smaller value, or the same value at no later a position. -/
def LexLe (a b : EReal × BitVec 32) : Prop := a.1 < b.1 ∨ a.1 = b.1 ∧ a.2.toInt ≤ b.2.toInt

/-- A pair is no worse than itself. -/
theorem LexLe.refl (a : EReal × BitVec 32) : LexLe a a := .inr ⟨rfl, le_refl _⟩

/-- No worse than one no worse than a third is no worse than the third. -/
theorem LexLe.trans {a b c : EReal × BitVec 32} (h : LexLe a b) (h' : LexLe b c) : LexLe a c := by
  rcases h with h | ⟨h, i⟩ <;> rcases h' with h' | ⟨h', i'⟩
  · exact .inl (h.trans h')
  · exact .inl (h'.symm ▸ h)
  · exact .inl (h.symm ▸ h')
  · exact .inr ⟨h.trans h', i.trans i'⟩

/-- Keeping the better of two pairs along a list ends at the start or at a member, and at no worse a
    pair than the start and every member. -/
theorem foldl_better (f : EReal × BitVec 32 → EReal × BitVec 32 → EReal × BitVec 32)
    (hf : ∀ a b, f a b = a ∧ LexLe a b ∨ f a b = b ∧ LexLe b a) :
    ∀ (l : List (EReal × BitVec 32)) (a : EReal × BitVec 32),
      (l.foldl f a = a ∨ l.foldl f a ∈ l) ∧ LexLe (l.foldl f a) a ∧ ∀ x ∈ l, LexLe (l.foldl f a) x
  | [], a => ⟨.inl rfl, LexLe.refl a, fun _ h => absurd h List.not_mem_nil⟩
  | b :: l, a => by
    obtain ⟨h1, h2, h3⟩ := foldl_better f hf l (f a b)
    rw [List.foldl_cons]
    rcases hf a b with ⟨e, h⟩ | ⟨e, h⟩
    · rw [e] at h1 h2 h3 ⊢
      refine ⟨h1.imp_right (List.mem_cons_of_mem _), h2, fun x hx => ?_⟩
      rcases List.mem_cons.1 hx with rfl | hx
      · exact h2.trans h
      · exact h3 x hx
    · rw [e] at h1 h2 h3 ⊢
      refine ⟨.inr ?_, h2.trans h, fun x hx => ?_⟩
      · rcases h1 with h1 | h1
        · rw [h1]; exact List.mem_cons_self
        · exact List.mem_cons_of_mem _ h1
      · rcases List.mem_cons.1 hx with rfl | hx
        · exact h2
        · exact h3 x hx

/-- The word of a small number, read signed, is the number. -/
theorem toInt_ofNat (k : Nat) (hk : k ≤ 8192) : (BitVec.ofNat 32 k).toInt = k := by
  rw [BitVec.toInt_eq_toNat_of_lt] <;> rw [BitVec.toNat_ofNat, Nat.mod_eq_of_lt (by omega)]
  omega

/-- A list holding exactly the pairs (entry, position) of a row, run from (`+∞`, 0) by a function
    that keeps the better pair, ends at the row's first least position. -/
theorem isFirstMin_foldl (f : EReal × BitVec 32 → EReal × BitVec 32 → EReal × BitVec 32)
    (hf : ∀ a b, f a b = a ∧ LexLe a b ∨ f a b = b ∧ LexLe b a) (d : Fin 8192 → EReal)
    (l : List (EReal × BitVec 32)) (hl : ∀ p, p ∈ l ↔ ∃ k : Fin 8192, p = (d k, BitVec.ofNat 32 k.val)) :
    IsFirstMin d (l.foldl f (⊤, 0#32)).2 := by
  obtain ⟨h1, -, h3⟩ := foldl_better f hf l (⊤, 0#32)
  have h4 : ∀ k : Fin 8192, LexLe (l.foldl f (⊤, 0#32)) (d k, BitVec.ofNat 32 k.val) :=
    fun k => h3 _ ((hl _).2 ⟨k, rfl⟩)
  rcases h1 with h1 | h1
  · rw [h1] at h4 ⊢
    have ht : ∀ k, d k = ⊤ := fun k => by
      rcases h4 k with h | h
      · exact absurd h not_top_lt
      · exact h.1.symm
    exact ⟨⟨0, by decide⟩, rfl, fun n => by rw [ht n]; exact le_top, fun n _ => Nat.zero_le _⟩
  · obtain ⟨k, hk⟩ := (hl _).1 h1
    rw [hk] at h4 ⊢
    refine ⟨k, rfl, fun n => ?_, fun n hn => ?_⟩
    · rcases h4 n with h | h
      · exact h.le
      · exact h.1.le
    · rcases h4 n with h | h
      · exact absurd hn (ne_of_gt h)
      · have := h.2
        rw [toInt_ofNat _ k.isLt.le, toInt_ofNat _ n.isLt.le] at this
        exact Int.ofNat_le.1 this

/-! ## Two blocks scanned in turn -/

/-- `v` is the least value of the row `d` on the 4096 positions from `off` on, and `i` the first of
    those positions at which it is taken. -/
def IsBlockMin (d : Fin 8192 → EReal) (off : Nat) (v : EReal) (i : BitVec 32) : Prop :=
  ∃ k : Fin 8192, i = BitVec.ofNat 32 k.val ∧ (off ≤ k.val ∧ k.val < off + 4096) ∧ d k = v
    ∧ ∀ n : Fin 8192, off ≤ n.val → n.val < off + 4096 → v ≤ d n ∧ (d n = v → k.val ≤ n.val)

/-- A running signed minimum is no more than its start and every word, and is one of them. -/
theorem fold_minsi {ι : Type} [DecidableEq ι] (f : ι → BitVec 32) (a : BitVec 32) (s : Finset ι) :
    ((s.fold IKind.minsi.op a f = a) ∨ ∃ x ∈ s, s.fold IKind.minsi.op a f = f x)
      ∧ ∀ x ∈ s, (s.fold IKind.minsi.op a f).toInt ≤ (f x).toInt := by
  induction s using Finset.induction_on with
  | empty => exact ⟨.inl rfl, fun _ h => absurd h (Finset.notMem_empty _)⟩
  | insert b s hb ih =>
    rw [Finset.fold_insert hb]
    obtain ⟨h1, h2⟩ := ih
    by_cases h : (f b).toInt < (s.fold IKind.minsi.op a f).toInt
    · have e : IKind.minsi.op (f b) (s.fold IKind.minsi.op a f) = f b := by
        show IntOp.minsi _ _ = _
        simp [IntOp.minsi, BitVec.slt, h]
      rw [e]
      refine ⟨.inr ⟨b, Finset.mem_insert_self _ _, rfl⟩, fun x hx => ?_⟩
      rcases Finset.mem_insert.1 hx with rfl | hx
      · exact le_refl _
      · exact h.le.trans (h2 x hx)
    · have e : IKind.minsi.op (f b) (s.fold IKind.minsi.op a f) = s.fold IKind.minsi.op a f := by
        show IntOp.minsi _ _ = _
        simp [IntOp.minsi, BitVec.slt, h]
      rw [e]
      refine ⟨h1.imp_right fun ⟨x, hx, ex⟩ => ⟨x, Finset.mem_insert_of_mem hx, ex⟩, fun x hx => ?_⟩
      rcases Finset.mem_insert.1 hx with rfl | hx
      · exact not_lt.1 h
      · exact h2 x hx

/-- The minimum of a block, and the signed minimum of the positions holding it (8192 standing for the
    others), are the block's least value and its first position. -/
theorem isBlockMin_fold (d : Fin 8192 → EReal) (off : Nat) (hoff : off + 4096 ≤ 8192)
    (b : Fin 4096 → EReal) (hb : ∀ n : Fin 4096, b n = d ⟨off + n.val, by omega⟩)
    (c : Fin 4096 → BitVec 32)
    (hc : ∀ n : Fin 4096, c n = if b n = Finset.univ.fold min ⊤ b then BitVec.ofNat 32 (off + n.val) else 8192#32) :
    IsBlockMin d off (Finset.univ.fold min ⊤ b) (Finset.univ.fold IKind.minsi.op 2147483647#32 c) := by
  generalize hv : Finset.univ.fold min ⊤ b = v at hc ⊢
  have hle : ∀ n, v ≤ b n := fun n =>
    ((Finset.le_fold_min v).1 (le_of_eq hv.symm)).2 n (Finset.mem_univ n)
  have hat : ∃ n, b n = v := by
    rcases (Finset.fold_min_le v).1 (le_of_eq hv) with h | ⟨n, -, h⟩
    · exact ⟨⟨0, by decide⟩, le_antisymm (le_top.trans h) (hle _)⟩
    · exact ⟨n, le_antisymm h (hle n)⟩
  obtain ⟨n0, hn0⟩ := hat
  obtain ⟨h1, h2⟩ := fold_minsi c 2147483647#32 Finset.univ
  generalize Finset.univ.fold IKind.minsi.op 2147483647#32 c = i at h1 h2 ⊢
  have hi : i.toInt ≤ (off + n0.val : Nat) := by
    have := h2 n0 (Finset.mem_univ _)
    rwa [hc, if_pos hn0, toInt_ofNat _ (by omega)] at this
  have hfind : ∃ n, b n = v ∧ i = BitVec.ofNat 32 (off + n.val) := by
    rcases h1 with rfl | ⟨n, -, rfl⟩
    · exact absurd hi (by rw [show (2147483647#32 : BitVec 32).toInt = 2147483647 from by decide]; omega)
    · rw [hc] at hi ⊢
      by_cases h : b n = v
      · exact ⟨n, h, if_pos h⟩
      · rw [if_neg h, show (8192#32 : BitVec 32).toInt = 8192 from by decide] at hi
        omega
  obtain ⟨n, hn, rfl⟩ := hfind
  refine ⟨⟨off + n.val, by omega⟩, rfl, ⟨by dsimp only; omega, by dsimp only; omega⟩, (hb n).symm.trans hn, ?_⟩
  intro k hk1 hk2
  have ek : b ⟨k.val - off, by omega⟩ = d k := (hb _).trans (congrArg d (Fin.ext (by dsimp only; omega)))
  refine ⟨ek ▸ hle _, fun e => ?_⟩
  have := h2 ⟨k.val - off, by omega⟩ (Finset.mem_univ _)
  rw [hc, if_pos (ek.trans e), toInt_ofNat _ (by omega), toInt_ofNat _ (by dsimp only; omega)] at this
  dsimp only at this ⊢
  omega

/-- Scanning the two halves of a row in turn, each taken over only if its least value is strictly
    smaller than the running one (which starts at `+∞`, position 0), finds the first least position. -/
theorem isFirstMin_scan (d : Fin 8192 → EReal) (v0 v1 : EReal) (i0 i1 : BitVec 32)
    (h0 : IsBlockMin d 0 v0 i0) (h1 : IsBlockMin d 4096 v1 i1) :
    IsFirstMin d (if v1 < (if v0 < ⊤ then v0 else ⊤) then i1 else (if v0 < ⊤ then i0 else 0#32)) := by
  have hv0 : (if v0 < ⊤ then v0 else ⊤) = v0 := by
    by_cases h : v0 < ⊤
    · exact if_pos h
    · rw [if_neg h]; exact (not_lt_top_iff.1 h).symm
  rw [hv0]
  obtain ⟨k0, rfl, ⟨-, hk0⟩, e0, a0⟩ := h0
  obtain ⟨k1, rfl, ⟨hk1, -⟩, e1, a1⟩ := h1
  by_cases h : v1 < v0
  · rw [if_pos h]
    refine ⟨k1, rfl, fun n => ?_, fun n hn => ?_⟩
    · by_cases hn : n.val < 4096
      · exact e1.le.trans (h.le.trans (a0 n (Nat.zero_le _) (by omega)).1)
      · exact e1.le.trans (a1 n (by omega) (by omega)).1
    · by_cases hn' : n.val < 4096
      · exact absurd (hn.trans e1) (ne_of_gt (lt_of_lt_of_le h (a0 n (Nat.zero_le _) (by omega)).1))
      · exact (a1 n (by omega) (by omega)).2 (hn.trans e1)
  · rw [if_neg h]
    have hall : ∀ n, v0 ≤ d n := fun n => by
      by_cases hn : n.val < 4096
      · exact (a0 n (Nat.zero_le _) (by omega)).1
      · exact (not_lt.1 h).trans (a1 n (by omega) (by omega)).1
    by_cases ht : v0 < ⊤
    · rw [if_pos ht]
      refine ⟨k0, rfl, fun n => e0.le.trans (hall n), fun n hn => ?_⟩
      by_cases hn' : n.val < 4096
      · exact (a0 n (Nat.zero_le _) (by omega)).2 (hn.trans e0)
      · omega
    · rw [if_neg ht]
      have ht' : v0 = ⊤ := not_lt_top_iff.1 ht
      exact ⟨⟨0, by decide⟩, rfl, fun n => le_top.trans (ht' ▸ hall n), fun n _ => Nat.zero_le _⟩

end Cert.Vq
-- ==== Proof.Vq.RefRun.lean ====
/-
  What the reference program computes, as one term of its two arguments, and the run that leaves
  that term in its result array.
-/
module

public import proofs.«01_k».proof.Defs
public import proofs.«01_k».proof.Proof.Gen.ReferenceIdeal
public import Idealize.ShloMosaic.Lib.StableHlo.Run
public import Idealize.ShloMosaic.Lib.StableHlo.RunHlo
public import Idealize.ShloMosaic.Lib.Quiescent

@[expose] public section

noncomputable section

open Idealize.ShloMosaic Idealize.ShloMosaic.TcCoe Idealize.SL.Sem

namespace Cert.Vq.Ref

open Cert.ReferenceIdeal Cert.ReferenceIdeal.Gen

/-- The vectors `x` as a 16384 × 32 matrix. -/
def flat (x : (⟨S16x1024x32, .f32⟩ : BufTy).Contents (Elt Ideal)) :
    (⟨S16384x32, .f32⟩ : BufTy).Contents (Elt Ideal) :=
  shapeCast S16384x32 x shapeCasts_S16x1024x32_S16384x32

/-- The squared norm of each vector, as a column. -/
def xnorm (x : (⟨S16x1024x32, .f32⟩ : BufTy).Contents (Elt Ideal)) :
    (⟨S16384x1, .f32⟩ : BufTy).Contents (Elt Ideal) :=
  broadcastInDim S16384x1 ![0] bcast_S16384_S16384x1_0
    (Host.reduceAdd (mulf (flat x) (flat x)) (constant (F := Ideal) S_ .f32 0x00000000#32)
      reducesTo_S16384x32_S16384_d1 h_S_)

/-- The squared norm of each codebook entry, as a row. -/
def cnorm (cb : (⟨S8192x32, .f32⟩ : BufTy).Contents (Elt Ideal)) :
    (⟨S1x8192, .f32⟩ : BufTy).Contents (Elt Ideal) :=
  broadcastInDim S1x8192 ![1] bcast_S8192_S1x8192_1
    (Host.reduceAdd (mulf cb cb) (constant (F := Ideal) S_ .f32 0x00000000#32)
      reducesTo_S8192x32_S8192_d1 h_S_)

/-- The table of distances: norm of the vector plus norm of the entry, less twice their product. -/
def dist (x : (⟨S16x1024x32, .f32⟩ : BufTy).Contents (Elt Ideal))
    (cb : (⟨S8192x32, .f32⟩ : BufTy).Contents (Elt Ideal)) :
    (⟨S16384x8192, .f32⟩ : BufTy).Contents (Elt Ideal) :=
  subf
    (addf (broadcastInDim S16384x8192 ![0, 1] bcast_S16384x1_S16384x8192_0_1 (xnorm x))
      (broadcastInDim S16384x8192 ![0, 1] bcast_S1x8192_S16384x8192_0_1 (cnorm cb)))
    (mulf
      (broadcastInDim S16384x8192 ![] bcast_S_S16384x8192 (constant (F := Ideal) S_ .f32 0x40000000#32))
      (Host.dotGeneral (F := Ideal) (φ₁ := .f32) (φ₂ := .f32) dot_S16384x32_S32x8192_S16384x8192_1_0_0_1_n_n none (flat x)
        (transpose (α := Ideal .f32) S32x8192 [1, 0] cb transposes_S8192x32_S32x8192_1_0)))

/-- The position of the least entry of each row of a table, by the program's reduction of pairs. -/
def argmin (D : (⟨S16384x8192, .f32⟩ : BufTy).Contents (Elt Ideal)) :
    (⟨S16384, .i32⟩ : BufTy).Contents (Elt Ideal) :=
  fun j => (Host.argReduce reducer_argmin_f32_i32 D (iotaInDim S16384x8192 32 1)
    (constant (F := Ideal) S_ .f32 0x7F800000#32) (constantI S_ 32 0#32)
    reducesTo_S16384x8192_S16384_d1 h_S_ j).2

/-- The reference's result: the row minima's positions, laid out 16 × 1024. -/
def out (x : (⟨S16x1024x32, .f32⟩ : BufTy).Contents (Elt Ideal))
    (cb : (⟨S8192x32, .f32⟩ : BufTy).Contents (Elt Ideal)) :
    (⟨S16x1024, .i32⟩ : BufTy).Contents (Elt Ideal) :=
  shapeCast S16x1024 (argmin (dist x cb)) shapeCasts_S16384_S16x1024

/-- Contents read through the typed name of the distance table are those contents. -/
theorem ofBuf_dist (D : main_v14.ty.Contents (Elt Ideal)) (h₁ h₂ h₃) :
    (StableHlo.TRef.of (T := ⟨S16384x8192, .f32⟩) main_v14 h₁ h₂ h₃).ofBuf D = D := rfl

/-- Contents written through the typed name of the positions are those contents. -/
theorem toBuf_pos (D : (⟨S16384, .i32⟩ : BufTy).Contents (Elt Ideal)) (h₁ h₂ h₃) :
    (StableHlo.TRef.of (T := ⟨S16384, .i32⟩) main_v15 h₁ h₂ h₃).toBuf D = D := rfl

/-- The reduction of pairs, spelt out, is `argmin`. -/
theorem argmin_eq (D : (⟨S16384x8192, .f32⟩ : BufTy).Contents (Elt Ideal)) :
    (fun j => (Host.argReduce reducer_argmin_f32_i32 D (iotaInDim S16384x8192 32 1)
      (constant (F := Ideal) S_ .f32 0x7F800000#32) (constantI S_ 32 0#32)
      reducesTo_S16384x8192_S16384_d1 h_S_ j).2) = argmin D := rfl

/-- The last reshape, at the shape of the result array. -/
theorem reshape_eq (E : (⟨S16384, .i32⟩ : BufTy).Contents (Elt Ideal)) (h) :
    (fun i => shapeCast main_v16.ty.shape E h i) = shapeCast S16x1024 E shapeCasts_S16384_S16x1024 := rfl

/-- Every run of the reference ends with its result array at `out` of its arguments, and with its
    arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ c : Dev nD,
        r.2.mem ((c.tc : Thread nD τ).loc main_v16)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine θ_run_mono (StableHlo.run_hlo _ _ (by hlo_seq) (by decide) (by decide) (by simp)
    (by intro _ h; (repeat (cases h with | head => rfl | tail _ h => ?_)); exact nomatch h) m g) ?_
  intro r h c
  refine ⟨(h c main_v16).trans ?_, (h c main_arg0).trans ?_, (h c main_arg1).trans ?_⟩
  · after_results_simp
    simp only [StableHlo.TRef.ofBuf_toBuf]
    rw [ofBuf_dist, toBuf_pos]
    refine (congrArg (fun E => fun i => shapeCast main_v16.ty.shape E _ i) (argmin_eq _)).trans ?_
    refine (reshape_eq _ _).trans ?_
    refine congrArg (fun D => shapeCast S16x1024 (argmin D) shapeCasts_S16384_S16x1024) ?_
    rfl
  · after_results_simp
  · after_results_simp

/-- Every run of the reference ends with its arguments unchanged and nothing pending. -/
theorem frame : Cert.quiescent_ReferenceIdeal := fun m g _ =>
  θ_run_mono (run m g) fun r h =>
    ⟨fun c => (h c).2, Idealize.ShloMosaic.sem_eq_zero_of_no_sems (by decide) r.2⟩

end Cert.Vq.Ref
-- ==== Proof.Vq.RefValue.lean ====
/-
  The reference's terms read at an entry: one entry of the table of distances, and each row's
  position as the first least position of that row.
-/
module

public import proofs.«01_k».proof.Proof.Vq.FirstMin
public import proofs.«01_k».proof.Proof.Vq.RefRun
public import Idealize.ShloMosaic.PureOps.Ideal.Laws
public import Idealize.ShloMosaic.Lib.ValueIdx
public import Idealize.ShloMosaic.Lib.Pipeline.Value

@[expose] public section

noncomputable section

open Idealize.ShloMosaic Idealize.ShloMosaic.TcCoe Idealize.ShloMosaic.ValueIdx
open scoped BigOperators

namespace Cert.Vq

namespace Ref

open Cert.ReferenceIdeal Cert.ReferenceIdeal.Gen

/-- The product of the reference at an entry: the sum over the 32 coordinates. -/
theorem dot_apply (u : (⟨S16384x32, .f32⟩ : BufTy).Contents (Elt Ideal))
    (w : (⟨S8192x32, .f32⟩ : BufTy).Contents (Elt Ideal)) (n : Fin 16384) (k : Fin 8192) :
    Host.dotGeneral (F := Ideal) (φ₁ := .f32) (φ₂ := .f32) dot_S16384x32_S32x8192_S16384x8192_1_0_0_1_n_n none u
        (transpose (α := Ideal .f32) S32x8192 [1, 0] w transposes_S8192x32_S32x8192_1_0) (ix2 n k)
      = ∑ l : Fin 32, (u (ix2 n l) : EReal) * w (ix2 k l) := by
  refine (Ideal.dotGeneral_apply _ _ _ _ _ _).trans ?_
  rw [← Equiv.sum_comp (contrEquiv1 dot_S16384x32_S32x8192_S16384x8192_1_0_0_1_n_n 32 rfl rfl).symm]
  refine Finset.sum_congr rfl fun l _ => ?_
  refine congrArg₂ (· * ·) (congrArg u ?_) (transpose_apply _ w _ _ _ ?_)
  · funext a
    match a with
    | ⟨0, _⟩ => rfl
    | ⟨1, _⟩ => rfl
  · intro b
    match b with
    | ⟨0, _⟩ => rfl
    | ⟨1, _⟩ => rfl

/-- One entry of the table of distances. -/
theorem dist_apply (x : (⟨S16x1024x32, .f32⟩ : BufTy).Contents (Elt Ideal))
    (cb : (⟨S8192x32, .f32⟩ : BufTy).Contents (Elt Ideal)) (n : Fin 16384) (k : Fin 8192) :
    (dist x cb (ix2 n k) : EReal) = entry (xnorm x (ix2 n (0 : Fin 1))) (cnorm cb (ix2 (0 : Fin 1) k))
      (fun l => flat x (ix2 n l)) (fun l => cb (ix2 k l)) := by
  unfold dist
  refine (subf_apply _ _ _).trans (congrArg₂ (· - ·) ?_ ?_)
  · refine (addf_apply _ _ _).trans (congrArg₂ (· + ·) ?_ ?_)
    · refine broadcastInDim_apply _ _ _ _ _ fun a => ?_
      match a with
      | ⟨0, _⟩ => rfl
      | ⟨1, _⟩ => rfl
    · refine broadcastInDim_apply _ _ _ _ _ fun a => ?_
      match a with
      | ⟨0, _⟩ => rfl
      | ⟨1, _⟩ => rfl
  · refine (mulf_apply _ _ _).trans (congrArg₂ (· * ·) ?_ (dot_apply _ _ _ _))
    exact broadcastInDim_apply _ _ _ _ ix0 fun a => a.elim0

/-- The reference's combining function keeps the better of two pairs. -/
theorem reducer_better (a b : EReal × BitVec 32) :
    reducer_argmin_f32_i32 (F := Ideal) a b = a ∧ LexLe a b
      ∨ reducer_argmin_f32_i32 (F := Ideal) a b = b ∧ LexLe b a := by
  obtain ⟨a, i⟩ := a
  obtain ⟨b, j⟩ := b
  rcases lt_trichotomy a b with h | h | h
  · refine .inl ⟨?_, .inl h⟩
    simp [reducer_argmin_f32_i32, Ideal.cmpf_def, Ideal.cmp, h, h.ne, Scalar.select, Scalar.ori, Scalar.andi, IntOp.ori, IntOp.andi]
  · subst h
    by_cases hij : i.toInt < j.toInt
    · refine .inl ⟨?_, .inr ⟨rfl, hij.le⟩⟩
      simp [reducer_argmin_f32_i32, Ideal.cmpf_def, Ideal.cmp, hij, Scalar.select, Scalar.ori, Scalar.andi, IntOp.ori, IntOp.andi, Scalar.cmpi, IntOp.cmpi, BitVec.slt]
    · refine .inr ⟨?_, .inr ⟨rfl, not_lt.1 hij⟩⟩
      simp [reducer_argmin_f32_i32, Ideal.cmpf_def, Ideal.cmp, hij, Scalar.select, Scalar.ori, Scalar.andi, IntOp.ori, IntOp.andi, Scalar.cmpi, IntOp.cmpi, BitVec.slt]
  · refine .inr ⟨?_, .inl h⟩
    simp [reducer_argmin_f32_i32, Ideal.cmpf_def, Ideal.cmp, h.not_gt, h.ne', Scalar.select, Scalar.ori, Scalar.andi, IntOp.ori, IntOp.andi]

/-- The pairs the reduction runs through at a row are that row's entries with their positions. -/
theorem mem_fiber (D : (⟨S16384x8192, .f32⟩ : BufTy).Contents (Elt Ideal)) (n : Fin 16384) (p : EReal × BitVec 32) :
    p ∈ Host.argReduceFiber (s := S16384x8192) (α := EReal) D (iotaInDim S16384x8192 32 1) reducesTo_S16384x8192_S16384_d1 (ix1 n)
      ↔ ∃ k : Fin 8192, p = (D (ix2 n k), BitVec.ofNat 32 k.val) := by
  unfold Host.argReduceFiber
  rw [List.mem_map]
  constructor
  · rintro ⟨q, hq, rfl⟩
    have hd := (List.mem_filter.1 hq).2
    have hd := of_decide_eq_true hd
    generalize S16384x8192.rowMajor.symm q = i at hd ⊢
    have h0 : (i 0).val = n.val :=
      (Shape.ReducesTo.drop_apply_val_of_eq reducesTo_S16384x8192_S16384_d1 i 0 0 (by decide) (by decide)).symm.trans
        (congrArg (fun j : S16384.Idx => (j 0).val) hd)
    have e : i = ix2 n (i 1) := by
      funext a
      match a with
      | ⟨0, _⟩ => exact Fin.ext h0
      | ⟨1, _⟩ => rfl
    exact ⟨i 1, Prod.ext (congrArg D e) rfl⟩
  · rintro ⟨k, rfl⟩
    refine ⟨S16384x8192.rowMajor (ix2 n k), List.mem_filter.2 ⟨List.mem_finRange _, decide_eq_true ?_⟩, ?_⟩
    · rw [Equiv.symm_apply_apply]
      funext b
      match b with
      | ⟨0, _⟩ =>
        exact Fin.ext (Shape.ReducesTo.drop_apply_val_of_eq reducesTo_S16384x8192_S16384_d1 (ix2 n k) 0 0 (by decide) (by decide))
    · rw [Equiv.symm_apply_apply]
      rfl

/-- The reduction of pairs at an entry, as a run along that entry's pairs from a named start. -/
theorem argReduce_at {s t u : Shape} {axes : List (Fin s.rank)}
    (f : EReal × BitVec 32 → EReal × BitVec 32 → EReal × BitVec 32) (D : s.Idx → EReal) (y : s.Idx → BitVec 32)
    (ix : u.Idx → EReal) (iy : u.Idx → BitVec 32) (h : s.ReducesTo axes t) (hu : 0 < u.numel) (j : t.Idx)
    (a : EReal) (b : BitVec 32) (ha : ix (Shape.Idx.first hu) = a) (hb : iy (Shape.Idx.first hu) = b) :
    Host.argReduce (F := Ideal) (φ := .f32) f D y ix iy h hu j = (Host.argReduceFiber D y h j).foldl f (a, b) := by
  subst ha hb
  exact (congrFun (Ideal.argReduce_eq_reduce2 (φ := .f32) f D y ix iy h hu) j).trans
    (Host.reduce2_eq_foldl_fiber f D y ix iy h hu j)

/-- Each entry of the reference's positions is the first least position of that row of the table. -/
theorem argmin_isFirstMin (D : (⟨S16384x8192, .f32⟩ : BufTy).Contents (Elt Ideal)) (n : Fin 16384) :
    IsFirstMin (fun k => D (ix2 n k)) (argmin D (ix1 n)) := by
  have e := congrArg Prod.snd (argReduce_at (s := S16384x8192) (reducer_argmin_f32_i32 (F := Ideal)) D (iotaInDim S16384x8192 32 1)
    (constant (F := Ideal) S_ .f32 0x7F800000#32) (constantI S_ 32 0#32) reducesTo_S16384x8192_S16384_d1 h_S_ (ix1 n)
    ⊤ 0#32 ofBits_posInf rfl)
  have e' := (congrFun (argmin_eq D).symm (ix1 n)).trans e
  rw [e']
  exact isFirstMin_foldl _ reducer_better (fun k => D (ix2 n k)) _ (mem_fiber D n)

end Ref

end Cert.Vq
-- ==== Proof.Vq.Block.lean ====
/-
  What the kernel computes for one block of 256 vectors: from the vectors, the codebook and their
  squared norms, the first least position of each vector's row of 8192 distances.
-/
module

public import proofs.«01_k».proof.Proof.Vq.FirstMin
public import proofs.«01_k».proof.Proof.Gen.KernelIdeal.Skeleton
public import Idealize.ShloMosaic.PureOps.Ideal.Laws
public import Idealize.ShloMosaic.Lib.ValueIdx
public import Idealize.ShloMosaic.Lib.Pipeline.Value

@[expose] public section

noncomputable section

open Idealize.ShloMosaic Idealize.ShloMosaic.TcCoe Idealize.ShloMosaic.ValueIdx
open scoped BigOperators

namespace Cert.Vq.Block

open Cert.KernelIdeal Cert.KernelIdeal.Gen

/-- A vector of 256 laid out as a column, read at a row. -/
theorem column_apply {α : Type} (v : S256.Idx → α) (r : Fin 256) :
    shapeCast S256x1 v shapeCasts_S256_S256x1 (ix2 r (0 : Fin 1)) = v (ix1 r) :=
  shapeCast_apply v _ _ _ (by rw [Shape.rowMajor_val_one, Shape.rowMajor_val_two]; show r.val = r.val * 1 + 0; omega)

/-- The minimum along each row of a 256 × 4096 array. -/
theorem rowMin_apply (T : FVec Ideal S256x4096 .f32) (r : Fin 256) :
    multiReduction .minimumf [1] S256 T 0x7F800000#32 reduces_S256x4096_S256 (.inl rfl) rfl (ix1 r)
      = Finset.univ.fold min (⊤ : EReal) (fun n : Fin 4096 => T (ix2 r n)) := by
  refine (multiReduction_minimumf_eq_fold T _ _ _ _ _).trans ?_
  refine (Shape.Reduces.fold_filter_drop_single _ _ _ _ _).trans ?_
  rw [show FloatOps.ofBits (F := Ideal) .f32 0x7F800000#32 = (⊤ : EReal) from ofBits_posInf]
  refine congrArg (fun g : Fin 4096 → EReal => Finset.univ.fold min (⊤ : EReal) g) (funext fun n => congrArg T ?_)
  funext a
  match a with
  | ⟨0, _⟩ => rfl
  | ⟨1, _⟩ => rfl

/-- The signed minimum along each row of a 256 × 4096 array of words. -/
theorem rowMinI_apply (T : IVec S256x4096 32) (r : Fin 256) :
    multiReductionI .minsi [1] S256 T 2147483647#32 reduces_S256x4096_S256 rfl (ix1 r)
      = Finset.univ.fold IKind.minsi.op 2147483647#32 (fun n : Fin 4096 => T (ix2 r n)) := by
  refine (multiReductionI_eq_fold _ T _ _ _ _).trans ?_
  refine (Shape.Reduces.fold_filter_drop_single _ _ _ _ _).trans ?_
  refine congrArg (fun g : Fin 4096 → BitVec 32 => Finset.univ.fold IKind.minsi.op 2147483647#32 g)
    (funext fun n => congrArg T ?_)
  funext a
  match a with
  | ⟨0, _⟩ => rfl
  | ⟨1, _⟩ => rfl

/-- A select on an ordered equality is the `if` on the equation. -/
theorem select_oeq {α : Type} (a b : EReal) (x y : α) :
    Scalar.select (FloatOps.cmpf (F := Ideal) (φ := .f32) .oeq a b) x y = if a = b then x else y := by
  show Scalar.select (BitVec.ofBool (decide (a = b))) x y = _
  by_cases h : a = b
  · rw [if_pos h, decide_eq_true h]; exact select_one x y
  · rw [if_neg h, decide_eq_false h]; exact select_zero x y

/-- A select on an ordered comparison is the `if` on the inequality. -/
theorem select_olt {α : Type} (a b : EReal) (x y : α) :
    Scalar.select (FloatOps.cmpf (F := Ideal) (φ := .f32) .olt a b) x y = if a < b then x else y := by
  show Scalar.select (BitVec.ofBool (decide (a < b))) x y = _
  by_cases h : a < b
  · rw [if_pos h, decide_eq_true h]; exact select_one x y
  · rw [if_neg h, decide_eq_false h]; exact select_zero x y

/-- The column of row minima of a 256 × 4096 array. -/
def mins (T : FVec Ideal S256x4096 .f32) : FVec Ideal S256x1 .f32 :=
  shapeCast S256x1 (multiReduction .minimumf [1] S256 T 0x7F800000#32 reduces_S256x4096_S256 (.inl rfl) rfl)
    shapeCasts_S256_S256x1

/-- The column of the positions, counted from `w`, at which each row of the array takes its minimum. -/
def poss (T : FVec Ideal S256x4096 .f32) (w : BitVec 32) : IVec S256x1 32 :=
  shapeCast S256x1
    (multiReductionI .minsi [1] S256
      (select (cmpf .oeq T (broadcastTo S256x4096 (mins T) broadcasts_S256x1_S256x4096))
        (addi (iota .tc S256x4096 32 [1] iota_S256x4096_d1_w32) (broadcast S256x4096 w)) (broadcast S256x4096 8192#32))
      2147483647#32 reduces_S256x4096_S256 rfl)
    shapeCasts_S256_S256x1

/-- The column of minima read at a row. -/
theorem mins_apply (T : FVec Ideal S256x4096 .f32) (r : Fin 256) :
    mins T (ix2 r (0 : Fin 1)) = Finset.univ.fold min (⊤ : EReal) (fun n : Fin 4096 => T (ix2 r n)) :=
  (column_apply _ r).trans (rowMin_apply T r)

/-- The words compared along a row: the column's number, counted from `off`. -/
theorem position_apply (off : Nat) (r : Fin 256) (n : Fin 4096) :
    addi (iota .tc S256x4096 32 [1] iota_S256x4096_d1_w32) (broadcast S256x4096 (BitVec.ofNat 32 off)) (ix2 r n)
      = BitVec.ofNat 32 (off + n.val) := by
  show iota .tc S256x4096 32 [1] iota_S256x4096_d1_w32 (ix2 r n) + BitVec.ofNat 32 off = _
  rw [iota_single_apply]
  show BitVec.ofNat 32 n.val + _ = _
  rw [← BitVec.ofNat_add, Nat.add_comm]

/-- The minimum and the position found in one half of the columns are that half's least value and the
    first position holding it. -/
theorem half (T : FVec Ideal S256x4096 .f32) (off : Nat) (hoff : off + 4096 ≤ 8192) (r : Fin 256) (d : Fin 8192 → EReal)
    (hT : ∀ n : Fin 4096, T (ix2 r n) = d ⟨off + n.val, by omega⟩) :
    IsBlockMin d off (mins T (ix2 r (0 : Fin 1))) (poss T (BitVec.ofNat 32 off) (ix2 r (0 : Fin 1))) := by
  rw [mins_apply, show poss T (BitVec.ofNat 32 off) (ix2 r (0 : Fin 1)) = _ from (column_apply _ r).trans (rowMinI_apply _ r)]
  refine isBlockMin_fold d off hoff (fun n => T (ix2 r n)) hT _ fun n => ?_
  refine (select_oeq _ _ _ _).trans ?_
  rw [broadcastTo_apply (mins T) _ (ix2 r n) (ix2 r (0 : Fin 1)) (fun a => by
    match a with
    | ⟨0, _⟩ => rfl
    | ⟨1, _⟩ => rfl), mins_apply]
  rw [position_apply, broadcast_apply]

/-- The kernel's product at an entry: the sum over the 32 coordinates. -/
theorem dot_apply (x : FVec Ideal S256x32 .bf16) (c : FVec Ideal S8192x32 .bf16) (r : Fin 256) (k : Fin 8192) :
    matmul dot_S256x32_S8192x32_S256x8192_1_1_0_0_n_n none x c (constant S256x8192 .f32 0x00000000#32) (ix2 r k)
      = ∑ l : Fin 32, (x (ix2 r l) : EReal) * c (ix2 k l) := by
  refine (Ideal.matmul_constant_zero_apply _ none x c _).trans ?_
  rw [← Equiv.sum_comp (contrEquiv1 dot_S256x32_S8192x32_S256x8192_1_1_0_0_n_n 32 rfl rfl).symm]
  refine Finset.sum_congr rfl fun l _ => ?_
  refine congrArg₂ (· * ·) (congrArg x ?_) (congrArg c ?_)
  · funext a
    match a with
    | ⟨0, _⟩ => rfl
    | ⟨1, _⟩ => rfl
  · funext a
    match a with
    | ⟨0, _⟩ => rfl
    | ⟨1, _⟩ => rfl

/-- The row of distances of the block's vector `r`. -/
abbrev row (x : Vec Ideal S256x32 .f32) (c : Vec Ideal S8192x32 .f32) (a : Vec Ideal S256x1 .f32) (b : Vec Ideal S1x8192 .f32)
    (r : Fin 256) (k : Fin 8192) : EReal :=
  entry (a (ix2 r (0 : Fin 1))) (b (ix2 (0 : Fin 1) k)) (fun l => x (ix2 r l)) (fun l => c (ix2 k l))

/-- The kernel's table of distances at an entry. -/
theorem table_apply (x : Vec Ideal S256x32 .f32) (c : Vec Ideal S8192x32 .f32) (a : Vec Ideal S256x1 .f32)
    (b : Vec Ideal S1x8192 .f32) (r : Fin 256) (k : Fin 8192) :
    k0_pay2 (F := Ideal) x c a b (ix2 r k) = row x c a b r k := by
  unfold k0_pay2
  refine (subf_apply _ _ _).trans (congrArg₂ (· - ·) ?_ ?_)
  · refine (addf_apply _ _ _).trans (congrArg₂ (· + ·) ?_ ?_)
    · rw [shapeCast_self]
      refine broadcastTo_apply _ _ _ _ fun a => ?_
      match a with
      | ⟨0, _⟩ => rfl
      | ⟨1, _⟩ => rfl
    · rw [shapeCast_self]
      refine broadcastTo_apply _ _ _ _ fun a => ?_
      match a with
      | ⟨0, _⟩ => rfl
      | ⟨1, _⟩ => rfl
  · refine (mulf_apply _ _ _).trans (congrArg₂ (· * ·) rfl ?_)
    rw [shapeCast_self]
    exact dot_apply _ _ r k

/-- The first 4096 columns of the table. -/
theorem left_apply (x : Vec Ideal S256x32 .f32) (c : Vec Ideal S8192x32 .f32) (a : Vec Ideal S256x1 .f32)
    (b : Vec Ideal S1x8192 .f32) (r : Fin 256) (n : Fin 4096) :
    k0_pay4 (F := Ideal) x c a b (ix2 r n) = row x c a b r ⟨0 + n.val, by omega⟩ := by
  refine Eq.trans ?_ (table_apply x c a b r ⟨0 + n.val, by omega⟩)
  unfold k0_pay4
  refine extractStridedSlice_apply _ _ _ _ _ fun a => ?_
  match a with
  | ⟨0, _⟩ => show r.val = 0 + r.val; omega
  | ⟨1, _⟩ => rfl

/-- The last 4096 columns of the table. -/
theorem right_apply (x : Vec Ideal S256x32 .f32) (c : Vec Ideal S8192x32 .f32) (a : Vec Ideal S256x1 .f32)
    (b : Vec Ideal S1x8192 .f32) (r : Fin 256) (n : Fin 4096) :
    k0_pay9 (F := Ideal) x c a b (ix2 r n) = row x c a b r ⟨4096 + n.val, by omega⟩ := by
  refine Eq.trans ?_ (table_apply x c a b r ⟨4096 + n.val, by omega⟩)
  unfold k0_pay9
  refine extractStridedSlice_apply _ _ _ _ _ fun a => ?_
  match a with
  | ⟨0, _⟩ => show r.val = 0 + r.val; omega
  | ⟨1, _⟩ => rfl

/-- A value taken over where it is below positive infinity, narrowed and widened again. -/
theorem takeOver_apply (M : FVec Ideal S256x1 .f32) (j : S256x1.Idx) :
    extf .f32 (truncf .bf16 (select (cmpf .olt M (k0_pay3 (F := Ideal))) M (k0_pay3 (F := Ideal))) bitsLt_bf16_f32) bitsLt_bf16_f32 j
      = if (M j : EReal) < ⊤ then (M j : EReal) else ⊤ := by
  rw [← ofBits_posInf]
  exact select_olt (M j) (Ideal.ofBits .f32 0x7F800000#32) (M j) (Ideal.ofBits .f32 0x7F800000#32)

/-- A position taken over where the value is below positive infinity. -/
theorem takeOverPos_apply (M : FVec Ideal S256x1 .f32) (P : IVec S256x1 32) (j : S256x1.Idx) :
    select (cmpf .olt M (k0_pay3 (F := Ideal))) P (broadcast S256x1 0#32) j
      = if (M j : EReal) < ⊤ then P j else 0#32 := by
  rw [← ofBits_posInf]
  exact select_olt (M j) (Ideal.ofBits .f32 0x7F800000#32) (P j) 0#32

/-- The minima of the first half, as a column. -/
theorem leftMins_eq (x : Vec Ideal S256x32 .f32) (c : Vec Ideal S8192x32 .f32) (a : Vec Ideal S256x1 .f32)
    (b : Vec Ideal S1x8192 .f32) : k0_pay5 (F := Ideal) x c a b = mins (k0_pay4 (F := Ideal) x c a b) :=
  rfl

/-- The minima of the second half, as a column. -/
theorem rightMins_eq (x : Vec Ideal S256x32 .f32) (c : Vec Ideal S8192x32 .f32) (a : Vec Ideal S256x1 .f32)
    (b : Vec Ideal S1x8192 .f32) : k0_pay10 (F := Ideal) x c a b = mins (k0_pay9 (F := Ideal) x c a b) :=
  rfl

/-- The running value after the first half, read at a row: the narrowing and widening change nothing. -/
theorem running_apply (x : Vec Ideal S256x32 .f32) (c : Vec Ideal S8192x32 .f32) (a : Vec Ideal S256x1 .f32)
    (b : Vec Ideal S1x8192 .f32) (j : S256x1.Idx) :
    k0_pay8 (F := Ideal) x c a b j
      = if (mins (k0_pay4 (F := Ideal) x c a b) j : EReal) < ⊤ then (mins (k0_pay4 (F := Ideal) x c a b) j : EReal) else ⊤ := by
  unfold k0_pay8 k0_pay6
  rw [leftMins_eq]
  exact takeOver_apply _ j

/-- The running position after the first half, read at a row. -/
theorem runningPos_apply (x : Vec Ideal S256x32 .f32) (c : Vec Ideal S8192x32 .f32) (a : Vec Ideal S256x1 .f32)
    (b : Vec Ideal S1x8192 .f32) (j : S256x1.Idx) :
    k0_pay7 (F := Ideal) x c a b j
      = if (mins (k0_pay4 (F := Ideal) x c a b) j : EReal) < ⊤ then poss (k0_pay4 (F := Ideal) x c a b) (BitVec.ofNat 32 0) j else 0#32 := by
  unfold k0_pay7 k0_pay6
  rw [leftMins_eq]
  exact takeOverPos_apply _ (poss (k0_pay4 (F := Ideal) x c a b) (BitVec.ofNat 32 0)) j

/-- The last choice: the second half's position where its value is below the running one. -/
theorem last_apply (P Q : IVec S256x1 32) (M R : FVec Ideal S256x1 .f32) (j : S256x1.Idx) :
    select (cmpf .olt M R) Q P j = if (M j : EReal) < R j then Q j else P j :=
  select_olt (M j) (R j) (Q j) (P j)

/-- The block's positions. -/
def result (x : Vec Ideal S256x32 .f32) (c : Vec Ideal S8192x32 .f32) (a : Vec Ideal S256x1 .f32)
    (b : Vec Ideal S1x8192 .f32) : IVec S256x1 32 :=
  k0_pay1 (k0_pay7 (F := Ideal) x c a b) (k0_pay8 (F := Ideal) x c a b) (k0_pay10 (F := Ideal) x c a b)
    (iota .tc S256x4096 32 [1] iota_S256x4096_d1_w32) (k0_pay11 (F := Ideal) x c a b) 4096#32

/-- Each of the block's positions is the first least position of its vector's row of distances. -/
theorem result_isFirstMin (x : Vec Ideal S256x32 .f32) (c : Vec Ideal S8192x32 .f32) (a : Vec Ideal S256x1 .f32)
    (b : Vec Ideal S1x8192 .f32) (r : Fin 256) :
    IsFirstMin (row x c a b r) (result x c a b (ix2 r (0 : Fin 1))) := by
  have e : result x c a b (ix2 r (0 : Fin 1))
      = if (mins (k0_pay9 (F := Ideal) x c a b) (ix2 r (0 : Fin 1)) : EReal) < k0_pay8 (F := Ideal) x c a b (ix2 r (0 : Fin 1))
        then poss (k0_pay9 (F := Ideal) x c a b) (BitVec.ofNat 32 4096) (ix2 r (0 : Fin 1))
        else k0_pay7 (F := Ideal) x c a b (ix2 r (0 : Fin 1)) := by
    unfold result k0_pay1 k0_pay11
    rw [rightMins_eq]
    exact last_apply _ (poss (k0_pay9 (F := Ideal) x c a b) (BitVec.ofNat 32 4096)) _ _ _
  rw [e, running_apply, runningPos_apply]
  exact isFirstMin_scan _ _ _ _ _ (half _ 0 (by omega) r _ (left_apply x c a b r))
    (half _ 4096 (by omega) r _ (right_apply x c a b r))

end Cert.Vq.Block
-- ==== Proof.Vq.KernelRun.lean ====
/-
  The kernel's array of positions after its 64 blocks, and the kernel's run: the array holds the
  reference's positions row by row, and the result is that array laid out 16 × 1024.
-/
module

public import proofs.«01_k».proof.Defs
public import proofs.«01_k».proof.Proof.Vq.Block
public import proofs.«01_k».proof.Proof.Vq.RefValue
public import proofs.«01_k».proof.Proof.Gen.KernelIdeal.Frame
public import Idealize.ShloMosaic.Lib.StableHlo.Run
public import Idealize.ShloMosaic.Lib.Pipeline.Value

@[expose] public section

noncomputable section

open Idealize.ShloMosaic Idealize.ShloMosaic.TcCoe Idealize.SL.Sem Idealize.ShloMosaic.ValueIdx
open Idealize.ShloMosaic.Pipeline (Dat)

namespace Cert.Vq.Kern

open Cert.KernelIdeal Cert.KernelIdeal.Gen

variable (m : (ℓ : Loc nD τ sig) → Buf (Elt Ideal) ℓ)

/-- The vectors of core `c`. -/
abbrev vecs (c : Dev nD) : (⟨S16x1024x32, .f32⟩ : BufTy).Contents (Elt Ideal) := m ((c.tc : Thread nD τ).loc main_arg0)

/-- The codebook of core `c`. -/
abbrev book (c : Dev nD) : (⟨S8192x32, .f32⟩ : BufTy).Contents (Elt Ideal) := m ((c.tc : Thread nD τ).loc main_arg1)

/-! ## What the kernel's four input arrays hold -/

/-- The first input array is the vectors as a matrix. -/
theorem in_vecs (c : Dev nD) : V m c main_v0 = Ref.flat (vecs m c) := by
  show StableHlo.after (hostOps0 (F := Ideal)) (fun b => m (c, b)) (Proc.devRef .tc main_v0) = _
  after_results_simp
  rfl

/-- The second input array is the vectors' squared norms. -/
theorem in_xnorm (c : Dev nD) : V m c main_v3 = Ref.xnorm (vecs m c) := by
  show StableHlo.after (hostOps0 (F := Ideal)) (fun b => m (c, b)) (Proc.devRef .tc main_v3) = _
  after_results_simp
  rfl

/-- The fourth input array is the codebook's squared norms. -/
theorem in_cnorm (c : Dev nD) : V m c main_v6 = Ref.cnorm (book m c) := by
  show StableHlo.after (hostOps0 (F := Ideal)) (fun b => m (c, b)) (Proc.devRef .tc main_v6) = _
  after_results_simp
  rfl

/-! ## The blocks read at an entry -/

/-- Where the blocks of the five arrays lie, at every point of the grid. -/
theorem places : ∀ t : Fin grid0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = t.val ∧ win0_4.index t 1 = 0)
      ∧ win0_4.xsize (grid0.coords t) 0 = 256 ∧ win0_4.xsize (grid0.coords t) 1 = 1 := by
  decide +kernel

/-- The grid has 64 points. -/
theorem point_lt (t : Fin cfg0.N) : t.val < 64 :=
  lt_of_lt_of_eq t.isLt N_0

/-- The row of the whole matrix that row `r` of block `t` is. -/
abbrev rowOf (t : Fin cfg0.N) (r : Fin 256) : Fin 16384 := ⟨t.val * 256 + r.val, by have := point_lt t; omega⟩

/-- The vectors of block `t`. -/
theorem blk_vecs (c : Dev nD) (t : Fin cfg0.N) (r : Fin 256) (l : Fin 32) :
    (iblk m c 0 t : S256x32.Idx → EReal) (ix2 r l) = Ref.flat (vecs m c) (ix2 (rowOf t r) l) := by
  unfold iblk
  rw [View.read_apply]
  show V m c main_v0 _ = _
  rw [in_vecs]
  obtain ⟨⟨h0, h1⟩, -⟩ := places t
  refine congrArg (Ref.flat (vecs m c)) (funext fun a => Fin.ext ?_)
  match a with
  | ⟨0, _⟩ => show win0_0.index t 0 * 256 + 1 * r.val = t.val * 256 + r.val; rw [h0]; omega
  | ⟨1, _⟩ => show win0_0.index t 1 * 32 + 1 * l.val = l.val; rw [h1]; omega

/-- The vectors' squared norms of block `t`. -/
theorem blk_xnorm (c : Dev nD) (t : Fin cfg0.N) (r : Fin 256) :
    (iblk m c 1 t : S256x1.Idx → EReal) (ix2 r (0 : Fin 1)) = Ref.xnorm (vecs m c) (ix2 (rowOf t r) (0 : Fin 1)) := by
  unfold iblk
  rw [View.read_apply]
  show V m c main_v3 _ = _
  rw [in_xnorm]
  obtain ⟨-, ⟨h0, h1⟩, -⟩ := places t
  refine congrArg (Ref.xnorm (vecs m c)) (funext fun a => Fin.ext ?_)
  match a with
  | ⟨0, _⟩ => show win0_1.index t 0 * 256 + 1 * r.val = t.val * 256 + r.val; rw [h0]; omega
  | ⟨1, _⟩ => show win0_1.index t 1 * 1 + 1 * 0 = 0; rw [h1]

/-- The codebook, whole at every point. -/
theorem blk_book (c : Dev nD) (t : Fin cfg0.N) (k : Fin 8192) (l : Fin 32) :
    (iblk m c 2 t : S8192x32.Idx → EReal) (ix2 k l) = book m c (ix2 k l) := by
  unfold iblk
  rw [View.read_apply]
  show V m c main_arg1 _ = _
  rw [V_main_arg1]
  obtain ⟨-, -, ⟨h0, h1⟩, -⟩ := places t
  refine congrArg (book m c) (funext fun a => Fin.ext ?_)
  match a with
  | ⟨0, _⟩ => show win0_2.index t 0 * 8192 + 1 * k.val = k.val; rw [h0]; omega
  | ⟨1, _⟩ => show win0_2.index t 1 * 32 + 1 * l.val = l.val; rw [h1]; omega

/-- The codebook's squared norms, whole at every point. -/
theorem blk_cnorm (c : Dev nD) (t : Fin cfg0.N) (k : Fin 8192) :
    (iblk m c 3 t : S1x8192.Idx → EReal) (ix2 (0 : Fin 1) k) = Ref.cnorm (book m c) (ix2 (0 : Fin 1) k) := by
  unfold iblk
  rw [View.read_apply]
  show V m c main_v6 _ = _
  rw [in_cnorm]
  obtain ⟨-, -, -, ⟨h0, h1⟩, -⟩ := places t
  refine congrArg (Ref.cnorm (book m c)) (funext fun a => Fin.ext ?_)
  match a with
  | ⟨0, _⟩ => show win0_3.index t 0 * 1 + 1 * 0 = 0; rw [h0]
  | ⟨1, _⟩ => show win0_3.index t 1 * 8192 + 1 * k.val = k.val; rw [h1]; omega

/-! ## The array of positions -/

/-- The reference's positions as a column. -/
def column (c : Dev nD) : (⟨S16384x1, .i32⟩ : BufTy).Contents (Elt Ideal) :=
  fun i => Ref.argmin (Ref.dist (vecs m c) (book m c)) (ix1 (i 0))

/-- The block computed at point `t`, at its row `r`, is the reference's position of that row: both are
    the first least position of one row of distances. -/
theorem result_eq (c : Dev nD) (t : Fin cfg0.N) (r : Fin 256) :
    Block.result (iblk m c 0 t) (iblk m c 2 t) (iblk m c 1 t) (iblk m c 3 t) (ix2 r (0 : Fin 1))
      = Ref.argmin (Ref.dist (vecs m c) (book m c)) (ix1 (rowOf t r)) := by
  have h := Block.result_isFirstMin (iblk m c 0 t) (iblk m c 2 t) (iblk m c 1 t) (iblk m c 3 t) r
  have h' := Ref.argmin_isFirstMin (Ref.dist (vecs m c) (book m c)) (rowOf t r)
  have e : Block.row (iblk m c 0 t) (iblk m c 2 t) (iblk m c 1 t) (iblk m c 3 t) r
      = fun k => Ref.dist (vecs m c) (book m c) (ix2 (rowOf t r) k) := by
    funext k
    rw [Ref.dist_apply]
    unfold Block.row
    rw [blk_xnorm, blk_cnorm]
    refine congrArg₂ (entry _ _) (funext fun l => blk_vecs m c t r l) (funext fun l => blk_book m c t k l)
  rw [e] at h
  exact h.unique h'

/-- A pair of zero offsets. -/
theorem off_zero : (![0, 0] : Fin 2 → Nat) = fun _ => 0 := by
  funext a
  match a with
  | ⟨0, _⟩ => rfl
  | ⟨1, _⟩ => rfl

/-- What the body leaves in the staging buffer is the block's positions. -/
theorem out_eq (x : Vec Ideal S256x32 .f32) (a : Vec Ideal S256x1 .f32) (k : Vec Ideal S8192x32 .f32)
    (b : Vec Ideal S1x8192 .f32) : out0_4 (F := Ideal) x a k b = Block.result x k a b := by
  unfold out0_4 Block.result
  rw [View.canon_unit_zero off_zero, View.ld_unit_zero (S := S256x32) off_zero, View.ld_unit_zero (S := S8192x32) off_zero,
    View.ld_unit_zero (S := S256x1) off_zero, View.ld_unit_zero (S := S1x8192) off_zero]

/-- Point `t` writes a block of 256 rows back at the rows `t * 256` on: it is the block of a column read
    there as soon as the two agree row by row. -/
theorem cut_eq (t : Fin cfg0.N) (B : Vec Ideal S256x1 .i32) (G : (⟨S16384x1, .i32⟩ : BufTy).Contents (Elt Ideal))
    (h : ∀ r : Fin 256, B (ix2 r (0 : Fin 1)) = G (ix2 (rowOf t r) (0 : Fin 1))) :
    (cfg0.win 4).cut (grid0.coords t) B = (win0_4.blk t).view.read (Elt Ideal) G := by
  obtain ⟨-, -, -, -, ⟨h0, h1⟩, h2, h3⟩ := places t
  funext j
  rw [View.read_apply]
  have hj0 : (j 0).val < 256 := lt_of_lt_of_eq (j 0).isLt h2
  have hj1 : (j 1).val < 1 := lt_of_lt_of_eq (j 1).isLt h3
  refine Eq.trans ?_ ((h ⟨(j 0).val, hj0⟩).trans ?_)
  · refine congrArg B (funext fun a => Fin.ext ?_)
    match a with
    | ⟨0, _⟩ => rfl
    | ⟨1, _⟩ => show (j 1).val = 0; omega
  · refine congrArg G (funext fun a => Fin.ext ?_)
    match a with
    | ⟨0, _⟩ =>
      show t.val * 256 + (j 0).val = win0_4.index t 0 * 256 + 1 * (j 0).val
      rw [h0]; omega
    | ⟨1, _⟩ =>
      show 0 = win0_4.index t 1 * 1 + 1 * (j 1).val
      rw [h1]; omega

/-- What point `t` writes back is its block of the column. -/
theorem written (c : Dev nD) (t : Fin cfg0.N) :
    (dats m 0 c).flushed 4 t = (win0_4.blk t).view.read (Elt Ideal) (column m c) := by
  show (cfg0.win 4).cut (grid0.coords t) ((dats m 0 c).after 4 t) = _
  rw [after0_4, out_eq]
  exact cut_eq t _ _ fun r => result_eq m c t r

/-- Every row of the column lies in some block. -/
theorem covered (i : S16384x1.Idx) : ∃ t : Fin cfg0.N, (cfg0.win 4).flush t = true ∧ i ∈ ((cfg0.win 4).blk t).view.set := by
  have hi0 : (i 0).val < 16384 := idx2_lt0 i
  have hi1 : (i 1).val < 1 := idx2_lt1 i
  have hN : cfg0.N = 64 := N_0
  let t : Fin cfg0.N := ⟨(i 0).val / 256, by omega⟩
  refine ⟨t, flush0_4 t, ?_⟩
  obtain ⟨-, -, -, -, ⟨h0, h1⟩, h2, h3⟩ := places t
  have ht : t.val = (i 0).val / 256 := rfl
  show i ∈ ((View.whole main_v7).slice (win0_4.rect t)).set
  rw [View.set_slice_whole, Rect.mem_set_unit]
  intro a
  match a with
  | ⟨0, _⟩ =>
    show win0_4.index t 0 * 256 ≤ (i 0).val ∧ (i 0).val < win0_4.index t 0 * 256 + win0_4.xsize (grid0.coords t) 0
    rw [h0, h2, ht]; omega
  | ⟨1, _⟩ =>
    show win0_4.index t 1 * 1 ≤ (i 1).val ∧ (i 1).val < win0_4.index t 1 * 1 + win0_4.xsize (grid0.coords t) 1
    rw [h1, h3]; omega

/-- After the 64 blocks the array of positions is the column. -/
theorem array_eq (c : Dev nD) : (dats m 0 c).arrAt 4 cfg0.N = column m c :=
  (dats m 0 c).arrAt_eq_of_cover 4 (column m c) (fun t _ => written m c t) covered

/-! ## The result -/

/-- The column laid out 16 × 1024 is the reference's result. -/
theorem laid_out (c : Dev nD) :
    shapeCast S16x1024 (column m c) shapeCasts_S16384x1_S16x1024 = Ref.out (vecs m c) (book m c) := by
  funext j
  have hj0 : (j 0).val < 16 := idx2_lt0 j
  have hj1 : (j 1).val < 1024 := idx2_lt1 j
  let n : Fin 16384 := ⟨(j 0).val * 1024 + (j 1).val, by omega⟩
  refine (shapeCast_apply (column m c) _ j (ix2 n (0 : Fin 1)) ?_).trans ?_
  · rw [Shape.rowMajor_val_two, Shape.rowMajor_val_two]
    show ((j 0).val * 1024 + (j 1).val) * 1 + 0 = (j 0).val * 1024 + (j 1).val
    omega
  · unfold Ref.out
    refine (shapeCast_apply (Ref.argmin (Ref.dist (vecs m c) (book m c))) _ j (ix1 n) ?_).symm
    rw [Shape.rowMajor_val_one, Shape.rowMajor_val_two]
    rfl

/-- What the lines after the blocks leave in the result array. -/
theorem tail_eq (c : Dev nD) :
    Pipeline.afterTail₀ cfgs (dats m) 0 (V0 m) [hostOps1] c main_v8 = Ref.out (vecs m c) (book m c) := by
  unfold Pipeline.afterTail₀
  after_results_simp
  refine Eq.trans ?_ (laid_out m c)
  refine congrArg (fun G : (⟨S16384x1, .i32⟩ : BufTy).Contents (Elt Ideal) => shapeCast S16x1024 G shapeCasts_S16384x1_S16x1024) ?_
  exact (Pipeline.withArrays_arr spec0 (by decide) c (V0 m c)
    (fun w => (dats m 0 c).arrAt w cfg0.N) 4).trans (array_eq m c)

/-- Every run of the kernel ends with its result array at the reference's result of its arguments, and
    with its arguments unchanged. -/
theorem run (ρ : Dev nD → PrngReg) :
    θ_run (defs (F := Ideal)) (onTc (τ := τ) (main (F := Ideal))) ⟨m, fun _ => 0, ρ⟩ fun r =>
      ∀ c : Dev nD,
        r.2.mem ((c.tc : Thread nD τ).loc main_v8) = Ref.out (vecs m c) (book m c)
        ∧ r.2.mem ((c.tc : Thread nD τ).loc main_arg0) = m ((c.tc : Thread nD τ).loc main_arg0)
        ∧ r.2.mem ((c.tc : Thread nD τ).loc main_arg1) = m ((c.tc : Thread nD τ).loc main_arg1) :=
  θ_run_mono (run_main m ρ) fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩

end Cert.Vq.Kern
-- ==== Proof.Vq.Equation.lean ====
/-
  The equation: over the extended reals the kernel and the reference end with equal results.
-/
module

public import proofs.«01_k».proof.Defs
public import proofs.«01_k».proof.Proof.Vq.RefRun
public import proofs.«01_k».proof.Proof.Vq.KernelRun

@[expose] public section

noncomputable section

open Idealize.ShloMosaic Idealize.ShloMosaic.TcCoe Idealize.SL.Sem

namespace Cert.Vq

/-- From the same vectors and codebook the kernel and the reference both end with the position of the
    nearest codebook entry of every vector, the first one among equals, and with their arguments
    unchanged. -/
theorem equation : Cert.algebraic_KernelIdeal_ReferenceIdeal := fun m g m' g' _ hagree =>
  ⟨fun c => Ref.out (Kern.vecs m c) (Kern.book m c), Kern.run m g,
    θ_run_mono (Ref.run m' g') fun _ h c =>
      ⟨(h c).1.trans (congrArg₂ Ref.out (hagree c).1 (hagree c).2), (h c).2⟩⟩

end Cert.Vq
-- ==== Proof.lean ====
/-
  The certificate: the frames of the three programs, the kernel kept by its idealization, and the
  equation of the kernel and the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Vq.FirstMin
public import proofs.«01_k».proof.Proof.Vq.RefRun
public import proofs.«01_k».proof.Proof.Vq.RefValue
public import proofs.«01_k».proof.Proof.Vq.Block
public import proofs.«01_k».proof.Proof.Vq.KernelRun
public import proofs.«01_k».proof.Proof.Vq.Equation
public import Idealize.ShloMosaic.Adequacy
public import Idealize.ShloMosaic.Init

@[expose] public section

noncomputable section

namespace Cert.Proof

open Idealize.ShloMosaic Idealize.SL.Sem Cert.Kernel

/-- The kernel, its idealization and the reference run, end with their arguments unchanged and nothing
    pending; the idealization is the kernel's own text; and over the extended reals the kernel's positions
    are the reference's. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.Vq.Ref.frame, trivial,
    Cert.Vq.equation⟩

end Cert.Proof

end
